-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1000000x128 : Shape := ⟨2, ![1000000, 128]⟩
abbrev S3x128 : Shape := ⟨2, ![3, 128]⟩
abbrev S_ : Shape := ⟨0, ![]⟩
abbrev S1x128 : Shape := ⟨2, ![1, 128]⟩
abbrev S2x128 : Shape := ⟨2, ![2, 128]⟩

abbrev nBuf : Table → Nat
  | .hbm => 2
  | _ => 0

abbrev bufTy : (tb : Table) → Fin (nBuf tb) → BufTy
  | .hbm, ⟨0, _⟩ => ⟨S1000000x128, .f32⟩
  | .hbm, ⟨1, _⟩ => ⟨S3x128, .f32⟩
  | _, _ => ⟨S1000000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1000000x128 : Shape := ⟨2, ![1000000, 128]⟩
abbrev S3 : Shape := ⟨1, ![3]⟩
abbrev S_ : Shape := ⟨0, ![]⟩
abbrev S3x1 : Shape := ⟨2, ![3, 1]⟩
abbrev S1 : Shape := ⟨1, ![1]⟩
abbrev S1x1 : Shape := ⟨2, ![1, 1]⟩
abbrev S3x128 : Shape := ⟨2, ![3, 128]⟩

abbrev nBuf : Space → Nat
  | .hbm => 25
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S3, .i32⟩
  | .hbm, ⟨2, _⟩ => ⟨S_, .i32⟩
  | .hbm, ⟨3, _⟩ => ⟨S3, .i32⟩
  | .hbm, ⟨4, _⟩ => ⟨S3, .i1⟩
  | .hbm, ⟨5, _⟩ => ⟨S_, .i32⟩
  | .hbm, ⟨6, _⟩ => ⟨S3, .i32⟩
  | .hbm, ⟨7, _⟩ => ⟨S3, .i32⟩
  | .hbm, ⟨8, _⟩ => ⟨S3, .i32⟩
  | .hbm, ⟨9, _⟩ => ⟨S3x1, .i32⟩
  | .hbm, ⟨10, _⟩ => ⟨S1, .i32⟩
  | .hbm, ⟨11, _⟩ => ⟨S_, .i32⟩
  | .hbm, ⟨12, _⟩ => ⟨S3x1, .i32⟩
  | .hbm, ⟨13, _⟩ => ⟨S3x1, .i1⟩
  | .hbm, ⟨14, _⟩ => ⟨S1x1, .i32⟩
  | .hbm, ⟨15, _⟩ => ⟨S3x1, .i32⟩
  | .hbm, ⟨16, _⟩ => ⟨S3x1, .i1⟩
  | .hbm, ⟨17, _⟩ => ⟨S3x1, .i1⟩
  | .hbm, ⟨18, _⟩ => ⟨S_, .i1⟩
  | .hbm, ⟨19, _⟩ => ⟨S3, .i1⟩
  | .hbm, ⟨20, _⟩ => ⟨S3x128, .f32⟩
  | .hbm, ⟨21, _⟩ => ⟨S3x128, .i1⟩
  | .hbm, ⟨22, _⟩ => ⟨S_, .f32⟩
  | .hbm, ⟨23, _⟩ => ⟨S3x128, .f32⟩
  | .hbm, ⟨24, _⟩ => ⟨S3x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rows.lean ====
/-
  The rows the kernel and the reference take, as one function of the table: row `r` of the result is row 2, 4, 5 of the
  table for `r` = 0, 1, 2. Both programs' values are equated to `pick`.
-/
module

public import proofs.«01_k».proof.Defs
public import Idealize.ShloMosaic.Lib.ValueIdx

@[expose] public section

namespace Cert.Proof

open Idealize.ShloMosaic Idealize.ShloMosaic.ValueIdx

/-- The table's row that the result's row `r` holds. -/
def rowOf (r : Fin 3) : Fin 1000000 := match r with | 0 => 2 | 1 => 4 | 2 => 5

/-- The three rows of `x`, one under the other. -/
def pick {α : Type} (x : (⟨2, ![1000000, 128]⟩ : Shape).Idx → α) : (⟨2, ![3, 128]⟩ : Shape).Idx → α :=
  fun i => x (ix2 (rowOf (i 0)) (i 1))

/-- The table at row 2 is `pick` at row 0 of the result. -/
theorem pick_first {α : Type} (x : (⟨2, ![1000000, 128]⟩ : Shape).Idx → α) (i : (⟨2, ![3, 128]⟩ : Shape).Idx)
    (j : (⟨2, ![1000000, 128]⟩ : Shape).Idx) (hi : (i 0).val = 0) (h0 : (j 0).val = 2) (h1 : (j 1).val = (i 1).val) :
    x j = pick x i := by
  have hr : rowOf (i 0) = j 0 := by
    rw [show i 0 = (0 : Fin 3) from Fin.ext hi]
    exact Fin.ext h0.symm
  unfold pick
  rw [hr]
  congr 1
  funext a
  match a with
  | 0 => rfl
  | 1 => exact Fin.ext h1

/-- The table three rows further down is `pick` at row 1 and at row 2 of the result. -/
theorem pick_later {α : Type} (x : (⟨2, ![1000000, 128]⟩ : Shape).Idx → α) (i : (⟨2, ![3, 128]⟩ : Shape).Idx)
    (j : (⟨2, ![1000000, 128]⟩ : Shape).Idx) (hi : 1 ≤ (i 0).val) (h0 : (j 0).val = (i 0).val + 3) (h1 : (j 1).val = (i 1).val) :
    x j = pick x i := by
  have hr : rowOf (i 0) = j 0 := by
    refine Fin.ext (Eq.trans ?_ h0.symm)
    generalize i 0 = r at hi
    match r, hi with
    | (1 : Fin 3), _ => rfl
    | (2 : Fin 3), _ => rfl
  unfold pick
  rw [hr]
  congr 1
  funext a
  match a with
  | 0 => rfl
  | 1 => exact Fin.ext h1

end Cert.Proof

end
-- ==== Proof.RowCopies.lean ====
/-
  The run of the row-copying kernel at any float values: one SparseCore sequencer starts two transfers from the table
  `x` into the result — row 2 into row 0 on the first semaphore, rows 4 and 5 into rows 1 and 2 on the second —, and
  waits for both. What the module proves is the result's contents (`wanted`), beside what a frame says: `x` at its
  launch contents and every semaphore counter back at zero.
-/
module

public import proofs.«01_k».proof.Defs
public import Idealize.ShloMosaic.Lib.SparseCore.Quiescent
public import Idealize.ShloMosaic.Lib.Pipeline.Kit
public import Idealize.ShloMosaic.Lib.Tactic
public import Idealize.ShloMosaic.Lib.WritesUnit
public import proofs.«01_k».proof.Proof.Rows
public import proofs.«01_k».proof.Proof.Gen.KernelIdeal
public import proofs.«01_k».proof.Proof.Gen.KernelIdeal.Skeleton

@[expose] public section

noncomputable section

namespace Cert.Proof.RowCopies

open Cert.KernelIdeal Cert.KernelIdeal.Gen

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev Lbl : Labels := Pipeline.Sig Λ₀ (Fin 0) fun p => (pcfgs (F := F) p).Adm
abbrev K : SparseCore.Cfg τ sig (Lbl (F := F)) 1 := sc (F := F)
abbrev D [FloatOps F] : Defs nD τ sig (Elt F) (Lbl (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is shared by tasks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds beside the counters of the transfers in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

local notation "xW" => (Memref.whole Cert.KernelIdeal.main_arg0_scs : Memref Cert.KernelIdeal.sig Kind.scScalar Space.hbm Cert.KernelIdeal.S1000000x128 EltTy.f32)
local notation "oW" => (Memref.whole Cert.KernelIdeal.main_v0_scs : Memref Cert.KernelIdeal.sig Kind.scScalar Space.hbm Cert.KernelIdeal.S3x128 EltTy.f32)

/-- The table `x`, and the result. -/
abbrev xLoc (d : Dev nD) : Loc nD τ sig := (SparseCore.T d).loc main_arg0
abbrev oLoc (d : Dev nD) : Loc nD τ sig := (SparseCore.T d).loc main_v0

abbrev xPts (d : Dev nD) : sProp 𝕄 := xLoc d ↦{fullShare} m (xLoc d)
abbrev oPts (d : Dev nD) (f : Buf (Elt F) (oLoc d)) : sProp 𝕄 := oLoc d ↦{fullShare} f

/-- Row 0 written first and rows 1 and 2 after it are the whole result: whatever the result held before, it holds `pick x`
    if each piece's payload is `pick x` at the rows written. -/
theorem writes_rows {Val : EltTy → Type} (f : S3x128.Idx → Val .f32) (x : S1000000x128.Idx → Val .f32)
    {w₀ : S1x128.Idx → Val .f32} {w₁ : S2x128.Idx → Val .f32}
    (h₀ : ∀ (y : S1x128.Idx) (i : S3x128.Idx), (i 0).val = 0 + (y 0).val → (i 1).val = (y 1).val → w₀ y = pick x i)
    (h₁ : ∀ (y : S2x128.Idx) (i : S3x128.Idx), (i 0).val = 1 + (y 0).val → (i 1).val = (y 1).val → w₁ y = pick x i) :
    (oW).view.writes Val f [⟨Rect.unit ![1, 0] S2x128.size inb_S3x128_S2x128_1_0, w₁⟩,
      ⟨Rect.unit ![0, 0] S1x128.size inb_S3x128_S1x128_0_0, w₀⟩] = pick x := by
  funext i
  have hi : (i 0).val < 3 := (i 0).isLt
  by_cases h : 1 ≤ (i 0).val
  · exact (View.read_writes_cons_rows_of_mem (oW).view f (o := 1) inb_S3x128_S2x128_1_0 w₁ _ i
      (ValueIdx.ix2 (⟨(i 0).val - 1, by omega⟩ : Fin 2) (i 1)) rfl (by show (i 0).val = 1 + ((i 0).val - 1); omega) rfl).trans
      (h₁ _ i (by show (i 0).val = 1 + ((i 0).val - 1); omega) rfl)
  · refine (View.read_writes_cons_rows_of_not_mem (oW).view f (o := 1) (W := 2) inb_S3x128_S2x128_1_0 w₁ _ i rfl rfl (by omega)).trans ?_
    exact (View.read_writes_cons_rows_of_mem (oW).view f (o := 0) inb_S3x128_S1x128_0_0 w₀ _ i
      (ValueIdx.ix2 (⟨(i 0).val, by omega⟩ : Fin 1) (i 1)) rfl (by show (i 0).val = 0 + (i 0).val; omega) rfl).trans
      (h₀ _ i (by show (i 0).val = 0 + (i 0).val; omega) rfl)

section Body

variable [FloatOps F] (d : Dev nD) (c : Fin (grid0.bound 0))

/-- The grid point of SparseCore `c`. -/
def at0 (c : Fin (grid0.bound 0)) : grid0.Coords := fun | 0 => c | ⟨_ + 1, h⟩ => absurd h (Nat.not_lt.2 (Nat.le_add_left _ _))

/-- The sequencer that runs the kernel, and its two cells. -/
abbrev sq : Thread nD τ := S d (c.castLE hcore0)
abbrev cellA : GSem nD τ sig := (sq d c, .dma cc0_scratch0.sem)
abbrev cellB : GSem nD τ sig := (sq d c, .dma cc0_scratch1.sem)

/-- A sequencer's whole memrefs address the TensorCore's arrays. -/
theorem xW_pts (t : Fin τ.nSC) (f : Buf (Elt F) (xLoc d)) : ((xW).view.loc (S d t) ↦{fullShare} f : sProp 𝕄) = xLoc d ↦{fullShare} f := by
  simp only [Memref.view_whole, View.set_whole]

theorem oW_pts (t : Fin τ.nSC) (f : Buf (Elt F) (oLoc d)) : ((oW).view.loc (S d t) ↦{fullShare} f : sProp 𝕄) = oLoc d ↦{fullShare} f := by
  simp only [Memref.view_whole, View.set_whole]

/-- The kernel's body, from the two arrays and its two semaphores at zero: it ends with the table untouched, the result at
    the table's three rows, both semaphores at zero again, and no wait recorded but its own two. -/
theorem body_run (O : CellTallies nD τ sig (HIx 1)) (W : Waits sig (HIx 1)) (f : Buf (Elt F) (oLoc d)) :
    iprop(Transfers.MayWaits (sq d c) (none : HIx 1) O ∗ ((xW).view.loc (sq d c) ↦{fullShare} m (xLoc d)) ∗ ((oW).view.loc (sq d c) ↦{fullShare} f)
        ∗ semVal (cellA d c) 0 ∗ semVal (cellB d c) 0 ∗ owes (sq d c) O W)
      ⊢ (wp frame (wpE (defs₀ (F := F)) 𝒱₀ (sq d c) none) Set.univ
          (cc0__gather_body (at0 c) xW (Memref.isWhole_whole _) oW (Memref.isWhole_whole _) cc0_scratch0 cc0_scratch1)
          fun _ => iprop(((xW).view.loc (sq d c) ↦{fullShare} m (xLoc d)) ∗ ((oW).view.loc (sq d c) ↦{fullShare} pick (m (xLoc d)))
            ∗ semVal (cellA d c) 0 ∗ semVal (cellB d c) 0 ∗ ∃ W', ⌜∀ p ∈ W', p ∈ W ∨ p.2 = none⌝ ∗ owes (sq d c) O W') : sProp 𝕄) := by
  rw [cc0__gather_body_eq_skeleton]; unfold cc0__gather_body_skel
  iintro ⟨Hmw, Hx, Ho, HsA, HsB, HO⟩
  set_option sl_exec.dmaWindow true in sl_exec
  sl_step
  rw [writes_rows f (m (xLoc d)) (w₀ := body_run.sl.dma0 m d) (w₁ := body_run.sl.dma0_1 m d)
    (fun y i h0 h1 => by
      have hy : (y 0).val < 1 := (y 0).isLt
      exact pick_first (m (xLoc d)) i _ (by omega) (by show 2 + 1 * (y 0).val = 2; omega)
        (by rw [h1]; show 0 + 1 * (y 1).val = (y 1).val; omega))
    (fun y i h0 h1 => pick_later (m (xLoc d)) i _ (by omega) (by rw [h0]; show 4 + 1 * (y 0).val = 1 + (y 0).val + 3; omega)
      (by rw [h1]; show 0 + 1 * (y 1).val = (y 1).val; omega))]
  isplitl [Hx]; · iexact Hx
  isplitl [Ho]; · iexact Ho
  isplitl [HsA]; · iexact HsA
  isplitl [HsB]; · iexact HsB
  iexists (insert (SemLoc.dma cc0_scratch1.sem, (default : HIx 1)) (insert (SemLoc.dma cc0_scratch0.sem, (default : HIx 1)) W)); isplitr
  · ipureintro
    intro p hp
    rcases Finset.mem_insert.mp hp with hp | hp
    · exact .inr (by rw [hp]; rfl)
    rcases Finset.mem_insert.mp hp with hp | hp
    · exact .inr (by rw [hp]; rfl)
    · exact .inl hp
  · iexact HO

end Body

end Cert.Proof.RowCopies

end
-- ==== Proof.Launch.lean ====
/-
  The launch: the program's main starts the row-copying kernel on one SparseCore and returns when the kernel has. From
  the body's run (RowCopies.lean), the whole program's, at any float values: it ends with the result at the table's three
  rows, the table at its launch contents and every semaphore counter at zero.
-/
module

public import proofs.«01_k».proof.Proof.RowCopies

@[expose] public section

noncomputable section

namespace Cert.Proof.RowCopies

open Cert.KernelIdeal Cert.KernelIdeal.Gen

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scs : Memref Cert.KernelIdeal.sig Kind.scScalar Space.hbm Cert.KernelIdeal.S1000000x128 EltTy.f32)
local notation "oW" => (Memref.whole Cert.KernelIdeal.main_v0_scs : Memref Cert.KernelIdeal.sig Kind.scScalar Space.hbm Cert.KernelIdeal.S3x128 EltTy.f32)

variable (m : (ℓ : Loc nD τ sig) → Buf (Elt F) ℓ) (ρ : Dev nD → PrngReg)

/-! ## What the call hands over and takes back -/

/-- The two arrays as the call takes them (the result at anything), and as it gives them back (the result at the rows). -/
abbrev given (d : Dev nD) : sProp 𝕄 := iprop(xPts m d ∗ ∃ f, oPts d f)
abbrev gotten (d : Dev nD) : sProp 𝕄 := iprop(xPts m d ∗ oPts d (pick (m (xLoc d))))

/-- The payloads of the one call: the arrays go to the sequencer and come back; no subcore is given anything. -/
def P : (K (F := F)).Pay (nD := nD) (Val := Elt F) (Name := ℕ) (U := UU) where
  st _ d _ := given m d
  dn _ d _ := gotten m d
  go _ _ _ _ := iprop(emp)
  td _ _ _ _ := iprop(emp)
  x _ _ := iprop(emp)

instance : (P (F := F) m).IsStorable where
  st _ d _ := by unfold P; infer_instance
  dn _ d _ := by unfold P; infer_instance
  go _ _ _ _ := by unfold P; infer_instance
  td _ _ _ _ := by unfold P; infer_instance

/-! ## The sequencer's task -/

/-- The two semaphores of the kernel among the semaphores of its sequencer. -/
theorem sems_split (d : Dev nD) (c : Fin (grid0.bound 0)) :
    (ownSems0 (sq d c) : sProp 𝕄)
      = iprop(semVal (cellA d c) 0 ∗ semVal (cellB d c) 0
          ∗ bigSep (((ownCells (sq d c)).erase (cellA d c)).erase (cellB d c)) fun g => semVal g 0) := by
  have hA : (SemLoc.dma cc0_scratch0.sem : SemLoc sig).isScoped .scScalar = true := by decide
  have hB : (SemLoc.dma cc0_scratch1.sem : SemLoc sig).isScoped .scScalar = true := by decide
  have hcells : ¬ (SemLoc.dma cc0_scratch1.sem : SemLoc sig) = .dma cc0_scratch0.sem := by decide
  have hne : cellB d c ≠ cellA d c := fun e => absurd (congrArg Prod.snd e) hcells
  unfold SparseCore.Cfg.ownSems0
  rw [SparseCore.bigSep_erase' ((mem_ownCells (g := cellA d c)).mpr ⟨rfl, hA⟩),
    SparseCore.bigSep_erase' (Finset.mem_erase.mpr ⟨hne, (mem_ownCells (g := cellB d c)).mpr ⟨rfl, hB⟩⟩)]

/-- The body's run as the launch asks it of a sequencer: from what the call hands over to what it takes back, the
    sequencer's own buffers and semaphores as they were. -/
theorem task_run (d : Dev nD) (c : Fin (grid0.bound 0)) (q : Fin 1) (O : CellTallies nD τ sig (HIx 1)) (W : Waits sig (HIx 1))
    (hO : ∀ g, O g none = 0) :
    iprop(levAts (K (F := F)).L (K (F := F)).lev ∗ emp ∗ given m d ∗ scopedBufs (sq d c) ∗ scopedSems0 (sq d c) ∗ owes (sq d c) O W)
      ⊢ (wp frame (wpE (defs₀ (F := F)) 𝒱₀ (sq d c) none) Set.univ
          (cc0__gather_body (at0 c) xW (Memref.isWhole_whole _) oW (Memref.isWhole_whole _) cc0_scratch0 cc0_scratch1)
          fun _ => iprop(gotten m d ∗ scopedBufs (sq d c) ∗ scopedSems0 (sq d c)
            ∗ ∃ W', ⌜∀ p ∈ W', p ∈ W ∨ p.2 = none ∨ p.2 = some q⌝ ∗ owes (sq d c) O W') : sProp 𝕄) := by
  iintro ⟨#Hlv, -, ⟨Hx, %f, Ho⟩, Hbufs, Hsems, HO⟩
  ihave Hs := (SparseCore.Cfg.scopedSems0_S_elim (Val := Elt F) d (c.castLE hcore0)) $$ Hsems
  icases Hs with ⟨Hown, Hsub⟩
  ihave Hown := (Entails.of_eq (sems_split (F := F) d c)) $$ Hown
  icases Hown with ⟨HsA, HsB, Hrest⟩
  ihave Hmw := ((K (F := F)).mayWaits_none (thr := sq d c) hO) $$ Hlv
  ihave Hx := (Entails.of_eq (xW_pts (F := F) d (c.castLE hcore0) _).symm) $$ Hx
  ihave Ho := (Entails.of_eq (oW_pts (F := F) d (c.castLE hcore0) _).symm) $$ Ho
  ihave Hwp := (body_run m d c O W f) $$ [Hmw Hx Ho HsA HsB HO]
  · isplitl [Hmw]; · iexact Hmw
    isplitl [Hx]; · iexact Hx
    isplitl [Ho]; · iexact Ho
    isplitl [HsA]; · iexact HsA
    isplitl [HsB]; · iexact HsB
    iexact HO
  iapply (wp_wand_r _ _ _)
  isplitl [Hwp]; · iexact Hwp
  iintro %_ ⟨Hx, Ho, HsA, HsB, %W', %hW', HO⟩
  isplitl [Hx Ho]
  · isplitl [Hx]
    · iapply (Entails.of_eq (xW_pts (F := F) d (c.castLE hcore0) _)); iexact Hx
    · iapply (Entails.of_eq (oW_pts (F := F) d (c.castLE hcore0) _)); iexact Ho
  isplitl [Hbufs]; · iexact Hbufs
  isplitl [HsA HsB Hrest Hsub]
  · iapply (SparseCore.Cfg.scopedSems0_S_intro (Val := Elt F) d (c.castLE hcore0))
    isplitl [HsA HsB Hrest]
    · iapply (Entails.of_eq (sems_split (F := F) d c).symm)
      isplitl [HsA]; · iexact HsA
      isplitl [HsB]; · iexact HsB
      iexact Hrest
    · iexact Hsub
  iexists W'; isplitr
  · ipureintro; exact fun p hp => (hW' p hp).imp_right Or.inl
  · iexact HO

/-- What a SparseCore's sequencer runs for the call. -/
theorem sequencer_program (t : Fin τ.nSC) :
    defs₀ (F := F) (.scScalar t) 0 ()
      = SparseCore.onCore hcore0
          (fun c => cc0__gather_body (at0 c) xW (Memref.isWhole_whole _) oW (Memref.isWhole_whole _) cc0_scratch0 cc0_scratch1) ⟨⟩ t := rfl

/-- The launch's obligation for the call is the task's run, the labels of the whole program put around it. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [sequencer_program]; simp only [SparseCore.onCore, hc, ↓reduceDIte]
  exact task_run m d ⟨_, hc⟩ 0 O W hO

/-! ## The launch's ghost state -/

/-- The handshakes' rounds; the counters start at nothing. -/
def u₀ : UU := (initOf (K (F := F)).hsCells (K (F := F)).hsToks, 1)

/-- The launch's ghost state is the handshakes' own; no thread is given anything beside its payload. -/
theorem launch_state : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr <;> iempintro

/-! ## Main -/

/-- The TensorCore's arrays are the table and the result. -/
theorem arrays_eq (d : Dev nD) (w : (b : Ref sig .tc) → Buf (Elt F) ((d.tc : Thread nD τ).loc b)) :
    (unscopedBufs d w : sProp 𝕄) = iprop((xLoc d ↦{fullShare} w main_arg0) ∗ oLoc d ↦{fullShare} w main_v0) := by
  unfold unscopedBufs
  rw [show (Finset.univ.filter fun b : Ref sig .tc => ¬ b.isScoped) = {main_arg0, main_v0} by decide,
    SparseCore.bigSep_insert' (by decide), bigSep_singleton]

/-- One SparseCore runs the call, so what the call takes and gives back is the one sequencer's. -/
theorem st_one (d : Dev nD) : (bigSep Finset.univ fun c : Fin ((K (F := F)).nCore 0) => (P m).st 0 d c) = given m d :=
  bigSep_univ_of_subsingleton (0 : Fin 1)

theorem dn_one (d : Dev nD) : (bigSep Finset.univ fun c : Fin ((K (F := F)).nCore 0) => (P m).dn 0 d c) = gotten m d :=
  bigSep_univ_of_subsingleton (0 : Fin 1)

/-- Main on a device's TensorCore: it hands both arrays to the call and ends with what the call gives back. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ gotten m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st_one]
    isplitl [Hx]; · iexact Hx
    iexists _; iexact Ho
  iintro ⟨Hst, Hdn⟩
  ihave Hdn := (Entails.of_eq (dn_one m d)) $$ Hdn
  imodintro
  isplitl [Hst]; · iexact Hst
  isplitl [Hdn]; · iexact Hdn
  isplitl [Hb] <;> iassumption

/-- What the claims read of a device's memory at the end: the result at the table's rows, the table unchanged. -/
def ends (d : Dev nD) (s' : Phys nD τ sig (Elt F)) : Prop :=
  s'.mem.mem (oLoc d) = pick (m (xLoc d)) ∧ s'.mem.mem (xLoc d) = m (xLoc d)

/-- The final memory holds what main was left with. -/
theorem ends_of_gotten (d : Dev nD) (s' : Phys nD τ sig (Elt F)) : iprop(gotten m d ∗ SI s') ⊢ (⌜ends m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := pick (m (xLoc d)))) $$ [HSI Ho]
  · isplitl [HSI] <;> iassumption
  icases H with %ho
  ipureintro
  exact ⟨funext fun i => ho i (Finset.mem_univ i), funext fun i => hx i (Finset.mem_univ i)⟩

/-- Every run of the kernel's program ends, on every device, with the result at the table's rows 2, 4 and 5 and the table
    unchanged, and leaves every semaphore counter at zero. -/
theorem run_main [∀ e, Nonempty (Elt F e)] :
    θ_run (Cert.KernelIdeal.defs (F := F)) (Cert.KernelIdeal.threads (F := F)) ⟨m, fun _ => 0, ρ⟩ fun r =>
      (∀ d : Dev nD, r.2.mem (oLoc d) = pick (m (xLoc d)) ∧ r.2.mem (xLoc d) = m (xLoc d)) ∧ r.2.sem = fun _ => 0 :=
  SparseCore.Cfg.θ_run_sc_quiescent (K := K (F := F)) (D := D (F := F)) (𝒱 := 𝒱) (EH := EH) (P := P m) (A := ∅) launchFacts v₀
    (fun q _ => match q with | 0 => scalarObl m)
    (fun q hq => match q with | 0 => nomatch hq)
    (fun q hq => match q with | 0 => nomatch hq)
    m ρ main (fun _ => iprop(emp)) (gotten m) (u₀ (F := F)) (sep_elim_left.trans (launch_state m)) (main_run m ρ) (ends m) (ends_of_gotten m) _
    (fun _ h hz => ⟨h, hz⟩)

end Cert.Proof.RowCopies

end
-- ==== Proof.TakenRows.lean ====
/-
  The reference's value: the host's operations for `take` along the rows at the literal row numbers 2, 4 and 5 compute
  `pick`. The row numbers are in range, so none is wrapped and no row is filled with the out-of-range value.
-/
module

public import proofs.«01_k».proof.Proof.Rows
public import proofs.«01_k».proof.Proof.Gen.ReferenceIdeal
public import Idealize.ShloMosaic.Lib.Routing.Ops

@[expose] public section

noncomputable section

namespace Cert.Proof.TakenRows

open Cert.ReferenceIdeal Cert.ReferenceIdeal.Gen Idealize.ShloMosaic Idealize.ShloMosaic.ValueIdx

/-- The row numbers, as the host lays them out for the gather: a negative one would have a million added. -/
def rowNumbers : IVec S3x1 32 :=
  broadcastInDim S3x1 ![0] bcast_S3_S3x1_0
    (select (cmpi .slt (fun i => lit0 (S3.rowMajor i)) (broadcastInDim S3 ![] bcast_S_S3 (constantI S_ 32 0#32)))
      (addi (fun i => lit0 (S3.rowMajor i)) (broadcastInDim S3 ![] bcast_S_S3 (constantI S_ 32 1000000#32)))
      (fun i => lit0 (S3.rowMajor i)))

/-- Row `r`'s number is the table's row. -/
theorem rowNumbers_at (r : Fin 3) : rowNumbers (ix2 r (0 : Fin 1)) = BitVec.ofNat 32 (rowOf r).val := by
  revert r; decide

/-- The host's test that every row number lies in the table. -/
def inTable : IVec S3 1 :=
  Host.reduce IntOp.andi
    (andi (cmpi .sge rowNumbers (broadcastInDim S3x1 ![] bcast_S_S3x1 (constantI S_ 32 0#32)))
      (cmpi .sle rowNumbers
        (broadcastInDim S3x1 ![0, 1] bcast_S1x1_S3x1_0_1 (broadcastInDim S1x1 ![1] bcast_S1_S1x1_1 (constantI S1 32 999999#32)))))
    (constantI S_ 1 1#1) reducesTo_S3x1_S3_d1 h_S_

/-- It holds at each of the three. -/
theorem inTable_at (r : Fin 3) : inTable (ix1 r) = 1#1 := by
  revert r; decide

/-- The reference's result at a table, filled where the test fails, is the table's three rows: the fill is nowhere taken. -/
theorem taken_eq {α : Type} (x : S1000000x128.Idx → α) (fill : S3x128.Idx → α) :
    select (broadcastInDim S3x128 ![0] bcast_S3_S3x128_0 inTable)
      (Host.gather gather_S1000000x128_S3x1_S3x128_1_0_n_n_0_1_1128 x rowNumbers) fill = pick x := by
  funext i
  obtain ⟨r, y, rfl⟩ : ∃ (r : Fin 3) (y : Fin 128), i = ix2 r y := ⟨i 0, i 1, eq_ix2 i⟩
  have hin : broadcastInDim S3x128 ![0] bcast_S3_S3x128_0 inTable (ix2 r y) = 1#1 := by
    refine Eq.trans ?_ (inTable_at r)
    unfold broadcastInDim
    congr 1
    funext a
    match a with
    | 0 => rfl
  exact (if_pos hin).trans
    (Routing.gather_row gather_S1000000x128_S3x1_S3x128_1_0_n_n_0_1_1128 rfl rfl rfl rfl rfl x rowNumbers r y (rowOf r)
      (rowNumbers_at r) (by norm_num))

end Cert.Proof.TakenRows

end
-- ==== Proof.lean ====
/-
  The certificate's claims: both frames of the kernel's program and both of the reference's, and the two claims that the
  kernel's result is the reference's — at the ideal values and bit by bit. Each value claim names the one result, the
  table's rows 2, 4 and 5 (`pick`, Proof/Rows.lean): the kernel's run (Proof/Launch.lean) ends with it, and the
  reference's term is equal to it (Proof/TakenRows.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.TakenRows
public import Idealize.ShloMosaic.Adequacy
public import Idealize.ShloMosaic.Init

@[expose] public section

noncomputable section

namespace Cert.Proof

open Idealize.ShloMosaic Idealize.SL.Sem

/-! ## The references' runs -/

/-- The reference at the ideal values ends with the table's rows 2, 4 and 5 and the table unchanged. -/
theorem run_referenceIdeal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v0)
          = pick (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => ⟨(h c).1.trans (TakenRows.taken_eq _ _), (h c).2⟩)
    (Cert.ReferenceIdeal.Value.run m ρ)

/-- The reference at the hardware's words ends the same way. -/
theorem run_reference (m : (ℓ : Loc Cert.Reference.nD Cert.Reference.τ Cert.Reference.sig) → Buf (Elt Bits) ℓ)
    (ρ : Dev Cert.Reference.nD → PrngReg) :
    θ_run (Cert.Reference.defs (F := Bits)) (onTc (τ := Cert.Reference.τ) (Cert.Reference.main (F := Bits))) ⟨m, fun _ => 0, ρ⟩
      fun r => ∀ c : Dev Cert.Reference.nD,
        r.2.mem ((c.tc : Thread Cert.Reference.nD Cert.Reference.τ).loc Cert.Reference.main_v0)
          = pick (m ((c.tc : Thread Cert.Reference.nD Cert.Reference.τ).loc Cert.Reference.main_arg0))
        ∧ r.2.mem ((c.tc : Thread Cert.Reference.nD Cert.Reference.τ).loc Cert.Reference.main_arg0)
          = m ((c.tc : Thread Cert.Reference.nD Cert.Reference.τ).loc Cert.Reference.main_arg0) :=
  (θ_run Cert.Reference.defs _ _).mono (fun _ h c => ⟨(h c).1.trans (TakenRows.taken_eq _ _), (h c).2⟩)
    (Cert.Reference.Value.run m ρ)

/-! ## The frames -/

/-- The kernel at the hardware's words runs to its end, leaves the table unchanged and every semaphore at zero. -/
theorem frame_kernel : Cert.quiescent_Kernel := fun m ρ _ =>
  (θ_run Cert.KernelIdeal.defs _ _).mono (fun _ h => ⟨fun d => (h.1 d).2, h.2⟩) (RowCopies.run_main (F := Bits) m ρ)

/-- The kernel at the ideal values does so too. -/
theorem frame_kernelIdeal : Cert.quiescent_KernelIdeal := fun m ρ _ =>
  (θ_run Cert.KernelIdeal.defs _ _).mono (fun _ h => ⟨fun d => (h.1 d).2, h.2⟩) (RowCopies.run_main (F := Ideal) m ρ)

/-- The reference at the ideal values runs to its end and leaves the table unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (run_referenceIdeal m ρ)

/-- The reference at the hardware's words does so too. -/
theorem frame_reference : Cert.quiescent_Reference := fun m ρ _ =>
  (θ_run Cert.Reference.defs _ _).mono (fun r h => ⟨fun c => (h c).2, sem_eq_zero_of_no_sems (by decide) r.2⟩)
    (run_reference m ρ)

/-! ## The values -/

/-- From equal tables the kernel and the reference end with equal results at the ideal values. -/
theorem values_ideal : Cert.algebraic_KernelIdeal_ReferenceIdeal := fun m ρ m' ρ' _ hm =>
  ⟨fun d => pick (m (RowCopies.xLoc d)),
    (θ_run Cert.KernelIdeal.defs _ _).mono (fun _ h d => h.1 d) (RowCopies.run_main (F := Ideal) m ρ),
    (θ_run Cert.ReferenceIdeal.defs _ _).mono (fun _ h d => ⟨(h d).1.trans (congrArg pick (hm d)), (h d).2⟩)
      (run_referenceIdeal m' ρ')⟩

/-- From equal tables they end with equal results bit by bit. -/
theorem values_bits : Cert.bitexact_Kernel_Reference := fun m ρ m' ρ' _ hm =>
  ⟨fun d => pick (m (RowCopies.xLoc d)),
    (θ_run Cert.KernelIdeal.defs _ _).mono (fun _ h d => h.1 d) (RowCopies.run_main (F := Bits) m ρ),
    (θ_run Cert.Reference.defs _ _).mono (fun _ h d => ⟨(h d).1.trans (congrArg pick (hm d)), (h d).2⟩)
      (run_reference m' ρ')⟩

/-- Everything the certificate claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, values_ideal, values_bits⟩

end Cert.Proof

end
